-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![4, 256, 256]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![4, 256, 256]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x256x256 : Shape := ⟨3, ![1, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x256x256 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x256x256 : Shape := ⟨3, ![4, 256, 256]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x256x256 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x256x256 : Shape := ⟨3, ![1, 256, 256]⟩
abbrev S4 : Shape := ⟨1, ![4]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x256x256, .f32⟩
  | .hbm, ⟨1, _⟩ => ⟨S4, .i32⟩
  | .hbm, ⟨2, _⟩ => ⟨S1x256x256, .f32⟩
  | .local _ .vmem, ⟨0, _⟩ => ⟨S1x256x256, .f32⟩
  | .local _ .vmem, ⟨1, _⟩ => ⟨S1x256x256, .f32⟩
  | .local _ .smem, ⟨0, _⟩ => ⟨S4, .i32⟩
  | _, _ => ⟨S1x256x256, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6 : BitVec 32 := 8#32
  let v24 : BitVec 32 := Scalar.muli v2 c8_i32_6
  let v25 : BitVec 32 := Scalar.addi c0_i32_7 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v26 : BitVec 32 := Scalar.muli v5 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_9 : BitVec 32 := 1#32
  let v28 : BitVec 32 := Scalar.muli v22 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v30 : BitVec 32 := Scalar.muli v2 c8_i32_11
  let v31 : BitVec 32 := Scalar.addi c0_i32_12 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v32 : BitVec 32 := Scalar.muli v5 c4_i32_13
  let v33 : BitVec 32 := Scalar.addi v31 v32
  let c1_i32_14 : BitVec 32 := 1#32
  let v34 : BitVec 32 := Scalar.muli v10 c1_i32_14
  let v35 : BitVec 32 := Scalar.addi v33 v34
  v35.toNat

def k0_chk2 (d0 : Dev nD) (v10 : BitVec 32) : Prop :=
  ((k0_dev2 d0 v10) < nD)
theorem k0_dev2_lt : ∀ (d0 : Dev nD) (v10 : BitVec 32) (k0_hw2 : k0_chk2 d0 v10), (k0_dev2 d0 v10) < nD := fun d0 v10 k0_hw2 => k0_hw2

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x256 : Shape := ⟨3, ![4, 256, 256]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Places.lean ====
/-
# The places of a permutation

The sixteen devices stand in four rows of four, one row for each pair of coordinates along `x` and `y`; the place of a
device in its row is its coordinate along `z`, its number modulo four. A permutation `σ` of the four places moves every
row within itself: the device at place `z` has its *target* at place `σ z` of its row and its *source* at place
`σ⁻¹ z`. This module states these maps and shows that the kernel's two device numbers are the target and the source
when the table it reads is the permutation's.
-/
module

public import proofs.«01_k».proof.Proof.Gen.KernelIdeal
public import Mathlib.GroupTheory.Perm.Basic
public import Mathlib.Data.Fintype.Perm

@[expose] public section

noncomputable section

namespace Cert.Permute

open Idealize.ShloMosaic Cert.KernelIdeal

/-- The place of a device in its row: its coordinate along `z`. -/
def place (c : Dev nD) : Fin 4 := ⟨c.val % 4, Nat.mod_lt _ (by decide)⟩

/-- The device at place `j` of the row of `c`. -/
def atPlace (c : Dev nD) (j : Fin 4) : Dev nD :=
  ⟨4 * (c.val / 4) + j.val, by have h : c.val < 16 := c.isLt; have := j.isLt; show _ < 16; omega⟩

/-- The device at place `j` is at place `j`. -/
theorem place_atPlace (c : Dev nD) (j : Fin 4) : place (atPlace c j) = j := by
  apply Fin.ext; have := j.isLt; simp only [place, atPlace]; omega

/-- Devices of one row name the same device at a place. -/
theorem atPlace_atPlace (c : Dev nD) (i j : Fin 4) : atPlace (atPlace c i) j = atPlace c j := by
  apply Fin.ext; have := i.isLt; simp only [atPlace]; omega

/-- A device is the one at its own place of its row. -/
theorem atPlace_place (c : Dev nD) : atPlace c (place c) = c := by
  apply Fin.ext; simp only [place, atPlace]; omega

/-- The device that `c` sends its block to. -/
def target (σ : Equiv.Perm (Fin 4)) (c : Dev nD) : Dev nD := atPlace c (σ (place c))

/-- The device that sends its block to `c`. -/
def source (σ : Equiv.Perm (Fin 4)) (c : Dev nD) : Dev nD := atPlace c (σ.symm (place c))

/-- The target of the source of `c` is `c`. -/
theorem target_source (σ : Equiv.Perm (Fin 4)) (c : Dev nD) : target σ (source σ c) = c := by
  simp only [target, source, place_atPlace, atPlace_atPlace, Equiv.apply_symm_apply, atPlace_place]

/-- The source of the target of `c` is `c`. -/
theorem source_target (σ : Equiv.Perm (Fin 4)) (c : Dev nD) : source σ (target σ c) = c := by
  simp only [target, source, place_atPlace, atPlace_atPlace, Equiv.symm_apply_apply, atPlace_place]

/-- The permutation of the devices that `σ` makes. -/
def moved (σ : Equiv.Perm (Fin 4)) : Dev nD ≃ Dev nD := ⟨target σ, source σ, source_target σ, target_source σ⟩

/-- The table of the permutation, as the argument holds it: word `i` is the number of place `σ i`. -/
def table (σ : Equiv.Perm (Fin 4)) : IVec S4 32 := fun i => BitVec.ofNat 32 (σ (i 0)).val

/-- Word `j` of the table, by the place. -/
def word (σ : Equiv.Perm (Fin 4)) (j : Fin 4) : BitVec 32 := BitVec.ofNat 32 (σ j).val

/-- The number that the kernel computes from word `j` is that of the device at place `j` of the row. -/
theorem dev2_word : ∀ (c : Dev nD) (j : Fin 4), k0_dev2 c (BitVec.ofNat 32 j.val) = (atPlace c j).val := by
  decide +kernel

/-- The number that the kernel computes from the table's four words is that of the source. -/
theorem dev1_word : ∀ (σ : Equiv.Perm (Fin 4)) (c : Dev nD),
    k0_dev1 c (word σ 0) (word σ 1) (word σ 2) (word σ 3) = (source σ c).val := by
  decide +kernel

/-- The number that the kernel computes from the word of its own place names the target. -/
theorem dev2_eq (σ : Equiv.Perm (Fin 4)) (c : Dev nD) (h : k0_chk2 c (word σ (place c))) :
    (⟨k0_dev2 c (word σ (place c)), k0_dev2_lt _ _ h⟩ : Dev nD) = target σ c :=
  Fin.ext (dev2_word c _)

/-- That number names a device of the mesh. -/
theorem chk2_word (σ : Equiv.Perm (Fin 4)) (c : Dev nD) : k0_chk2 c (word σ (place c)) := by
  unfold k0_chk2 word; rw [dev2_word]; exact (atPlace c _).isLt

/-- The number that the kernel finds by comparing the four words with its own place names the source. -/
theorem dev1_eq (σ : Equiv.Perm (Fin 4)) (c : Dev nD) (h : k0_chk1 c (word σ 0) (word σ 1) (word σ 2) (word σ 3)) :
    (⟨k0_dev1 c (word σ 0) (word σ 1) (word σ 2) (word σ 3), k0_dev1_lt _ _ _ _ _ h⟩ : Dev nD) = source σ c :=
  Fin.ext (dev1_word σ c)

end Cert.Permute

end
-- ==== Proof.Protocol.lean ====
/-
# The protocol of the exchange

Every device owns three cells: its barrier semaphore, the semaphore of its departing copy and the semaphore of its
arriving copy. Each is used for one round of one duty:

* the barrier cell of `c` is paid one unit by the device `c` sends to, its target, which hands over its staging buffer of
  the result: from the signal on it is `c` that may write there;
* the departure cell of `c` is paid the bytes of a block by `c`'s own copy, which hands back the staged block of `x`;
* the arrival cell of `c` is paid the bytes of a block by the copy of the device that sends to `c`, its source; it hands
  over the staging buffer of the result, which holds the source's block.

So each device owes a unit to its source's barrier and a block to its target's arrival cell. The levels, barrier below
arrival, order the waits.
-/
module

public import proofs.«01_k».proof.Proof.Places
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Scf
public import Idealize.ShloMosaic.Lib.Tactic

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds beside the exchange's. -/
abbrev Ghost : Type := UR sig nD τ × UR sig nD τ

local notation "𝕄" => MT nD τ sig Unit (Elt F) ℕ Ghost ℕ

/-- Where the pipeline's rounds live. -/
abbrev pipe : Emb (UR sig nD τ) (MT nD τ sig Unit (Elt F) ℕ Ghost ℕ) := embL
/-- Where the exchange's rounds live. -/
abbrev swap : Emb (UR sig nD τ) (MT nD τ sig Unit (Elt F) ℕ Ghost ℕ) := embR

/-- There are no loop variants. -/
abbrev noVar : Variants := Variants.none

/-! ## The cells -/

/-- The barrier semaphore of the kernel's collective. -/
abbrev barrier : SemLoc sig := .reg (SemArray.scalar (sig.barrier 0 rfl) : Sems sig S_).sem
/-- The semaphore of the departing copy. -/
abbrev depart : SemLoc sig := .dma cc0_scratch0.sem
/-- The semaphore of the arriving copy. -/
abbrev arrive : SemLoc sig := .dma cc0_scratch1.sem

/-- The three of them, numbered. -/
abbrev semNo : Fin 3 → SemLoc sig := fun | 0 => barrier | 1 => depart | 2 => arrive
/-- The two that are scoped to the kernel, numbered. -/
abbrev scopedNo : Fin 2 → SemLoc sig := fun | 0 => depart | 1 => arrive

/-- Semaphore `s` of device `c`. -/
abbrev at_ (c : Dev nD) (s : SemLoc sig) : GSem nD τ sig := ((c : Thread nD τ), s)

/-- The cells of the exchange, numbered by device and semaphore. -/
abbrev cellNo (ck : Dev nD × Fin 3) : GSem nD τ sig := at_ ck.1 (semNo ck.2)

/-- The three semaphores are different. -/
theorem semNo_injective : Function.Injective semNo := by decide

/-- Different pairs of a device and a semaphore are different cells. -/
theorem cellNo_injective : Function.Injective cellNo := fun a b h =>
  Prod.ext (congrArg (fun g : GSem nD τ sig => g.1.1) h) (semNo_injective (congrArg Prod.snd h))

/-- All of them. -/
def cells : Finset (GSem nD τ sig) := Finset.univ.map ⟨cellNo, cellNo_injective⟩

/-- A device's three semaphores are cells of the exchange. -/
theorem mem_cells (c : Dev nD) (k : Fin 3) : at_ c (semNo k) ∈ cells := Finset.mem_map_of_mem _ (Finset.mem_univ (c, k))

/-- The departure semaphore is not the barrier, -/
theorem depart_ne_barrier : depart ≠ barrier := by decide
/-- nor is the arrival semaphore; -/
theorem arrive_ne_barrier : arrive ≠ barrier := by decide
/-- and the two are different. -/
theorem depart_ne_arrive : depart ≠ arrive := by decide

/-! ## The buffers -/

/-- The staged table. -/
abbrev tblM : Memref sig .tc .smem S4 .i32 := Memref.whole cc0_stg0_0
/-- The staged block of `x`. -/
abbrev blkM : Memref sig .tc .vmem S1x256x256 .f32 := Memref.whole cc0_stg1_0
/-- The staged block of the result. -/
abbrev resM : Memref sig .tc .vmem S1x256x256 .f32 := Memref.whole cc0_stg2_0

/-- The bytes that a copy of a block credits. -/
abbrev bytes : ℕ := resM.view.dmaCredit
theorem bytes_pos : 0 < bytes := View.dmaCredit_pos _ (by decide)

variable (m : (ℓ : Loc nD τ sig) → Buf (Elt F) ℓ) (ρ : Dev nD → PrngReg) (σ : Equiv.Perm (Fin 4))

/-- The table as device `c` stages it. -/
def stagedTbl (c : Dev nD) : (cc0_stg0_0 : Ref sig .tc).ty.Contents (Elt F) :=
  (win0_0.blk (0 : Fin 1)).view.read (Elt F) (m ((c : Thread nD τ).loc main_arg1))

/-- The block of `x` as device `c` stages it. -/
def stagedBlk (c : Dev nD) : (cc0_stg1_0 : Ref sig .tc).ty.Contents (Elt F) :=
  (win0_1.blk (0 : Fin 1)).view.read (Elt F) (m ((c : Thread nD τ).loc main_arg0))

/-- A buffer of device `c` held whole, with its contents. -/
abbrev holds (c : Dev nD) (b : Ref sig .tc) (f : b.ty.Contents (Elt F)) : sProp 𝕄 := ((c : Thread nD τ).loc b) ↦{fullShare} f

/-- A buffer held whole can be handed over in an invariant; -/
instance holds_storable (c : Dev nD) (b : Ref sig .tc) (f : b.ty.Contents (Elt F)) :
    BI.Storable (upEmb : UEmb _ 𝕄) (holds (F := F) c b f) := by unfold holds; infer_instance

/-! ## The schedule -/

/-- What the target's signal hands to `c`: the target's staging buffer of the result, whatever it holds. -/
def room (c : Dev nD) : sProp 𝕄 := iprop(∃ f : (cc0_stg2_0 : Ref sig .tc).ty.Contents (Elt F), holds (target σ c) cc0_stg2_0 f)

/-- so can the room for a block, -/
instance room_storable (c : Dev nD) : BI.Storable (upEmb : UEmb _ 𝕄) (room (F := F) σ c) := by unfold room; infer_instance

/-- The schedule: in round 0 every cell of the exchange has one duty. -/
def plan : Rounds.Schedule (GSem nD τ sig) Unit 𝕄 where
  duties g r := if r = 0 ∧ g ∈ cells then {()} else ∅
  unitless _ := False
  amount g _ _ := if g.2 = barrier then 1 else bytes
  payload g _ _ :=
    if g.2 = barrier then room σ g.1.1
    else if g.2 = arrive then holds g.1.1 cc0_stg2_0 (stagedBlk m (source σ g.1.1))
    else holds g.1.1 cc0_stg1_0 (stagedBlk m g.1.1)
  amount_pos g _ _ _ := by split <;> first | exact Nat.one_pos | exact bytes_pos

/-- and so can every payload of the schedule. -/
instance plan_storable (g : GSem nD τ sig) (r : ℕ) (d : Unit) :
    BI.Storable (upEmb : UEmb _ 𝕄) ((plan (F := F) m σ).payload g r d) := by
  dsimp only [plan]; (repeat' split) <;> infer_instance

section Plan
variable (c : Dev nD)

/-- In round 0 a cell of the exchange has its one duty; -/
theorem duties_zero (k : Fin 3) : (plan (F := F) m σ).duties (at_ c (semNo k)) 0 = {()} := if_pos ⟨rfl, mem_cells c k⟩

/-- that duty is one of its duties, -/
theorem duty_mem (k : Fin 3) : () ∈ (plan (F := F) m σ).duties (at_ c (semNo k)) 0 := by
  rw [duties_zero]; exact Finset.mem_singleton_self _

/-- and no later round has any. -/
theorem duties_after (g : GSem nD τ sig) : ∀ r, 0 + 1 ≤ r → (plan (F := F) m σ).duties g r = ∅ := fun r hr =>
  if_neg fun h => absurd h.1 (by omega)

/-- The barrier is paid a unit, -/
theorem amount_barrier (r : ℕ) (d : Unit) : (plan (F := F) m σ).amount (at_ c barrier) r d = 1 := by
  dsimp only [plan]; exact if_pos rfl
/-- the departure cell the bytes of a block, -/
theorem amount_depart (r : ℕ) (d : Unit) : (plan (F := F) m σ).amount (at_ c depart) r d = bytes := by
  dsimp only [plan]; exact if_neg depart_ne_barrier
/-- and so is the arrival cell. -/
theorem amount_arrive (r : ℕ) (d : Unit) : (plan (F := F) m σ).amount (at_ c arrive) r d = bytes := by
  dsimp only [plan]; exact if_neg arrive_ne_barrier

/-- What a round expects is its one duty's amount. -/
theorem expect_zero (k : Fin 3) :
    (plan (F := F) m σ).expect (at_ c (semNo k)) 0 = (plan (F := F) m σ).amount (at_ c (semNo k)) 0 () := by
  unfold Schedule.expect Schedule.amountOf; rw [duties_zero, Finset.sum_singleton]

/-- The barrier's unit comes with the target's room for a block, -/
theorem payload_barrier (r : ℕ) (d : Unit) : (plan (F := F) m σ).payload (at_ c barrier) r d = room σ c := by
  dsimp only [plan]; rw [if_pos rfl]
/-- the arrival with the source's block in the result's buffer, -/
theorem payload_arrive (r : ℕ) (d : Unit) :
    (plan (F := F) m σ).payload (at_ c arrive) r d = holds c cc0_stg2_0 (stagedBlk m (source σ c)) := by
  dsimp only [plan]; rw [if_neg arrive_ne_barrier, if_pos rfl]
/-- and the departure gives back the device's own block. -/
theorem payload_depart (r : ℕ) (d : Unit) :
    (plan (F := F) m σ).payload (at_ c depart) r d = holds c cc0_stg1_0 (stagedBlk m c) := by
  dsimp only [plan]; rw [if_neg depart_ne_barrier, if_neg depart_ne_arrive]

/-- What waiting for the whole round gives is its one duty's payload. -/
theorem whole_round (k : Fin 3) :
    bigSep ((plan (F := F) m σ).duties (at_ c (semNo k)) 0 \ ∅) (fun d => (plan (F := F) m σ).payload (at_ c (semNo k)) 0 d)
      = (plan (F := F) m σ).payload (at_ c (semNo k)) 0 () := by
  rw [Finset.sdiff_empty, duties_zero, bigSep_singleton]

end Plan

/-! ## What each device owes, and the levels -/

/-- A device owes its target's arrival cell a block; -/
def oweBlock (c : Dev nD) : CellTallies nD τ sig Unit := tallyAt (at_ (target σ c) arrive) () bytes
/-- and its source's barrier a unit. -/
def oweUnit (c : Dev nD) : CellTallies nD τ sig Unit := tallyAt (at_ (source σ c) barrier) () 1
/-- Both together. -/
def oweBoth (c : Dev nD) : CellTallies nD τ sig Unit := oweBlock σ c + oweUnit σ c

/-- The cells that have a level: the ones of the TensorCores. -/
def levelled (g : GSem nD τ sig) : Finset Unit := if g.1.2 = .tc then {()} else ∅
/-- The levels: the barriers below the arrival cells, everything else below both. -/
def level (g : GSem nD τ sig) (_ : Unit) : ℕ := if g.2 = barrier then 1 else if g.2 = arrive then 2 else 0

/-- Every cell of a device's TensorCore has a level; -/
theorem levelled_at (c : Dev nD) (s : SemLoc sig) (u : Unit) : u ∈ levelled (at_ c s) := by
  rw [levelled, if_pos rfl]; exact Finset.mem_singleton_self _
/-- the barrier's is 1, -/
theorem level_barrier (c : Dev nD) (u : Unit) : level (at_ c barrier) u = 1 := if_pos rfl
/-- and the arrival cell's is 2. -/
theorem level_arrive (c : Dev nD) (u : Unit) : level (at_ c arrive) u = 2 := (if_neg arrive_ne_barrier).trans (if_pos rfl)

/-- A tally of one cell is positive there only. -/
theorem eq_of_tallyAt_pos {g g' : GSem nD τ sig} {u u' : Unit} {n : ℕ}
    (h : 0 < (tallyAt g u n : CellTallies nD τ sig Unit) g' u') : g' = g := by
  by_contra hn
  rw [tallyAt_apply, if_neg fun h' => hn h'.1] at h
  exact Nat.lt_irrefl 0 h

/-- Where a device owes anything there is a level, of at least 1. -/
theorem level_of_owed {c : Dev nD} {g : GSem nD τ sig} {u : Unit} (h : 0 < oweBoth σ c g u) : u ∈ levelled g ∧ 0 < level g u := by
  unfold oweBoth at h
  rw [Pi.add_apply, Finsupp.add_apply] at h
  rcases Nat.eq_zero_or_pos (oweBlock σ c g u) with h0 | h0
  · rw [h0, Nat.zero_add] at h
    rw [eq_of_tallyAt_pos h]; exact ⟨levelled_at _ _ _, by rw [level_barrier]; decide⟩
  · rw [eq_of_tallyAt_pos h0]; exact ⟨levelled_at _ _ _, by rw [level_arrive]; decide⟩

/-- A device may wait for its staging copies, whatever it owes. -/
theorem mayWait_staging (c : Dev nD) (s : SemLoc sig) (hs : s ≠ barrier ∧ s ≠ arrive) :
    (levAts levelled level : sProp 𝕄) ⊢ MayWait (c : Thread nD τ) s () (oweBoth σ c) :=
  Pipeline.mayWait_of_levAts (levelled_at c s ()) fun g u h => by
    obtain ⟨h1, h2⟩ := level_of_owed σ h
    exact ⟨h1, by rwa [show level ((c : Thread nD τ), s) () = 0 from (if_neg hs.1).trans (if_neg hs.2)]⟩

/-- A device may wait at its barrier while it owes its target a block. -/
theorem mayWait_barrier (c : Dev nD) :
    (levAts levelled level : sProp 𝕄) ⊢ MayWait (c : Thread nD τ) barrier () (oweBlock σ c) :=
  Pipeline.mayWait_of_levAts (levelled_at c barrier ()) fun g u h => by
    rw [eq_of_tallyAt_pos h]
    exact ⟨levelled_at _ _ _, by rw [level_arrive, level_barrier]; decide⟩

/-! ## What a device starts from and ends with -/

/-- The invariants that device `c` opens, at the names `κ`: of its own cells, of its source's barrier, of its target's
    arrival cell. -/
def invs (κ : GSem nD τ sig → ℕ) (c : Dev nD) : sProp 𝕄 :=
  iprop(cellInv swap (plan m σ) (κ (at_ c barrier)) (at_ c barrier)
    ∗ cellInv swap (plan m σ) (κ (at_ c depart)) (at_ c depart)
    ∗ cellInv swap (plan m σ) (κ (at_ c arrive)) (at_ c arrive)
    ∗ cellInv swap (plan m σ) (κ (at_ (source σ c) barrier)) (at_ (source σ c) barrier)
    ∗ cellInv swap (plan m σ) (κ (at_ (target σ c) arrive)) (at_ (target σ c) arrive))

/-- That the cells which device `c` pays are at round 0. -/
def marks (c : Dev nD) : sProp 𝕄 :=
  iprop(reached swap (at_ (source σ c) barrier) 0 ∗ reached swap (at_ c depart) 0 ∗ reached swap (at_ (target σ c) arrive) 0)

/-- The positions of device `c` at its own cells. -/
def places (c : Dev nD) : sProp 𝕄 :=
  iprop(atPos swap (at_ c barrier) 0 ∅ 0 ∗ atPos swap (at_ c depart) 0 ∅ 0 ∗ atPos swap (at_ c arrive) 0 ∅ 0)

/-- The duties that device `c` pays. -/
def pays (c : Dev nD) : sProp 𝕄 :=
  iprop(dutyTok swap (at_ (source σ c) barrier) 0 () ∗ dutyTok swap (at_ c depart) 0 () ∗ dutyTok swap (at_ (target σ c) arrive) 0 ())

/-- What the launch makes for device `c`. -/
def dealt (c : Dev nD) : sProp 𝕄 := iprop(∃ κ, (invs m σ κ c ∗ marks σ c) ∗ places c ∗ pays σ c)

/-- What device `c` starts from. -/
def start (c : Dev nD) : sProp 𝕄 :=
  iprop(dealt m σ c ∗ cred (tallyAt (at_ c barrier) () 1) ∗ cred (tallyAt (at_ c arrive) () bytes) ∗ levAts levelled level)

/-- What device `c` ends with: its three semaphores at zero. -/
def finish (c : Dev nD) : sProp 𝕄 := iprop(semVal (at_ c barrier) 0 ∗ semVal (at_ c depart) 0 ∗ semVal (at_ c arrive) 0)

/-- The pipeline's data of the exchange: the two arguments stay, the result's staging buffer ends with the source's
    block. -/
def data (_ : Fin 1) (c : Dev nD) : Dat τ (Elt F) Unit ℕ Ghost ℕ cfg0 c where
  A w := m ((cfg0.win w).arr.view.loc (c : Thread nD τ))
  after w _ := match w with
    | ⟨0, _⟩ => stagedTbl m c
    | ⟨1, _⟩ => stagedBlk m c
    | ⟨2, _⟩ => stagedBlk m (source σ c)
  Φ t := match t with
    | ⟨0, _⟩ => start m σ c
    | ⟨_ + 1, _⟩ => finish c
  q _ := fullShare
  owed t := match t with
    | ⟨0, _⟩ => oweBoth σ c
    | ⟨_ + 1, _⟩ => 0

end Cert.Permute

end
-- ==== Proof.Body.lean ====
/-
# The body of the kernel

One run of the body on a device `c`, for a table that is a permutation's: from what the launch deals to `c` and the three
staging buffers, to the semaphores at zero and the result's staging buffer holding the block of `c`'s source. The reads
of the table come first and name the source and the target; then the signal, the three waits and the copy follow, one rule
each.
-/
module

public import proofs.«01_k».proof.Proof.Protocol
public import Idealize.ShloMosaic.Lib.Pipeline.Value

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (σ : Equiv.Perm (Fin 4))

/-! ## What is staged -/

/-- The one block of a table is the table. -/
theorem stagedTbl_eq (c : Dev nD) : stagedTbl m c = m ((c : Thread nD τ).loc main_arg1) :=
  funext fun i => congrArg (m ((c : Thread nD τ).loc main_arg1)) (funext fun a => Fin.ext
    (Pipeline.Window.rect_emb_val_of_index_zero win0_0 (0 : Fin 1) a (by revert a; decide +kernel) i))

/-- The one block of a device's part of `x` is that part. -/
theorem stagedBlk_eq (c : Dev nD) : stagedBlk m c = m ((c : Thread nD τ).loc main_arg0) :=
  funext fun i => congrArg (m ((c : Thread nD τ).loc main_arg0)) (funext fun a => Fin.ext
    (Pipeline.Window.rect_emb_val_of_index_zero win0_1 (0 : Fin 1) a (by revert a; decide +kernel) i))

/-- One word of the staged table, at an offset. -/
abbrev wordAt (ts : (cc0_stg0_0 : Ref sig .tc).ty.Contents (Elt F)) (off : Fin 1 → ℕ) (h : ∀ a, off a + S1.size a ≤ S4.size a) :
    BitVec 32 :=
  (tblM.access (Rect.unit (s := S4) off S1.size h) : View sig .tc _ _ _).read (Elt F) ts
    (Shape.Idx.first (s := S1) (numel1_S1.symm ▸ Nat.one_pos))

/-- The word at offset `j` is the permutation's word `j`. -/
theorem wordAt_eq (c : Dev nD) (hm : m ((c : Thread nD τ).loc main_arg1) = table σ) (off : Fin 1 → ℕ)
    (h : ∀ a, off a + S1.size a ≤ S4.size a) (j : Fin 4) (hj : off 0 = j.val) : wordAt (stagedTbl m c) off h = word σ j := by
  rw [stagedTbl_eq, hm]
  refine congrArg (fun i => BitVec.ofNat 32 (σ i).val) (Fin.ext (Eq.trans ?_ hj))
  show off 0 + 1 * 0 = off 0
  omega

/-! ## The steps -/

section Steps

variable (κ : GSem nD τ sig → ℕ)

/-- A wait for the whole round of one of the device's own cells, and the cell's end: the payload arrives, and the
    semaphore is at zero and the device's own again. -/
theorem wp_await (c : Dev nD) (i : Fin 3) {n : ℕ} {e : TpuEff nD τ sig (Elt F) Λ₀ .tc PUnit}
    (he : ∀ K : PUnit → sProp 𝕄,
      wpE (defs₀ (F := F)) noVar (c : Thread nD τ) none Set.univ e K = waitSpec (c : Thread nD τ) Set.univ (semNo i) n K)
    (hn : n = (plan (F := F) m σ).amount (at_ c (semNo i)) 0 ()) (O : CellTallies nD τ sig Unit) (W : Waits sig Unit) {α : Type} {Q : α → sProp 𝕄}
    {k : PUnit → Prog (TpuEff nD τ sig (Elt F) Λ₀ .tc) α} :
    iprop(cellInv swap (plan m σ) (κ (at_ c (semNo i))) (at_ c (semNo i)) ∗ cred (tallyAt (at_ c (semNo i)) () n)
        ∗ owes (c : Thread nD τ) O W ∗ MayWait (c : Thread nD τ) (semNo i) () O ∗ atPos swap (at_ c (semNo i)) 0 ∅ 0)
      ⊢ iprop(((owes (c : Thread nD τ) O (insert (semNo i, ()) W) ∗ semVal (at_ c (semNo i)) 0
            ∗ (plan (F := F) m σ).payload (at_ c (semNo i)) 0 ())
          -∗ wp frame (wpE (defs₀ (F := F)) noVar (c : Thread nD τ) none) Set.univ (k ⟨⟩) Q)
        -∗ wp frame (wpE (defs₀ (F := F)) noVar (c : Thread nD τ) none) Set.univ (.op e k) Q) := by
  iintro ⟨#HI, Hc, HO, Hw, Hat⟩ Hk
  iapply (Rounds.wp_wait_rest_token noVar swap (plan m σ) (c : Thread nD τ) none (κ := κ (at_ c (semNo i))) he (Set.mem_univ _)
      () (O := O) (W := W) (R := 0) (m := 0) (T := ∅) (by rw [expect_zero, Nat.zero_add, hn])) $$ [Hc HO Hw Hat]
  · isplitr; · iexact HI
    isplitl [Hc]; · iexact Hc
    isplitl [HO]; · iexact HO
    isplitl [Hw]; · iexact Hw
    iexact Hat
  iintro ⟨HO, Hat, -, Hpay⟩
  ihave Hp := (Entails.of_eq (whole_round m σ c i)) $$ Hpay
  imod (Rounds.cell_close swap (plan m σ) (Set.mem_univ (κ (at_ c (semNo i)))) (fun h => h) (R := 0 + 1) (duties_after m σ _)) $$ [Hat] with Hz
  · isplitr; · iexact HI
    iexact Hat
  iapply Hk
  isplitl [HO]; · iexact HO
  isplitl [Hz] <;> iassumption

/-- The signal to a device `n` that is the source of `c`: `c` makes room for it. -/
theorem wp_tell (c n : Dev nD) (hn : n = source σ c) (W : Waits sig Unit) (f : (cc0_stg2_0 : Ref sig .tc).ty.Contents (Elt F)) {α : Type} {Q : α → sProp 𝕄}
    {k : PUnit → Prog (TpuEff nD τ sig (Elt F) Λ₀ .tc) α} :
    iprop(cellInv swap (plan m σ) (κ (at_ (source σ c) barrier)) (at_ (source σ c) barrier) ∗ owes (c : Thread nD τ) (oweBoth σ c) W
        ∗ dutyTok swap (at_ (source σ c) barrier) 0 () ∗ holds c cc0_stg2_0 f ∗ reached swap (at_ (source σ c) barrier) 0)
      ⊢ iprop((owes (c : Thread nD τ) (oweBlock σ c) W -∗ wp frame (wpE (defs₀ (F := F)) noVar (c : Thread nD τ) none) Set.univ (k ⟨⟩) Q)
        -∗ wp frame (wpE (defs₀ (F := F)) noVar (c : Thread nD τ) none) Set.univ
            (.op (.semSignal (Dev.tc n) (SemArray.scalar (sig.barrier 0 rfl) : Sems sig S_).sem (1#32 : BitVec 32).toInt) k) Q) := by
  subst hn
  rw [show (1#32 : BitVec 32).toInt = ((1 : ℕ) : Int) from rfl]
  iintro ⟨HI, HO, Ht, Hf, Hr⟩ Hk
  iapply (Rounds.wp_signal noVar swap (plan m σ) (c : Thread nD τ) none (dst := (source σ c : Thread nD τ))
      (κ := κ (at_ (source σ c) barrier)) (duty_mem m σ (source σ c) 0) (amount_barrier m σ (source σ c) 0 ()) ()
      (oweBlock σ c) rfl) $$ [HI HO Ht Hf Hr]
  · isplitl [HI]; · iexact HI
    isplitl [HO]; · iexact HO
    isplitl [Ht]; · iexact Ht
    isplitl [Hf]
    · rw [payload_barrier]; unfold room; rw [target_source]
      iexists f; iexact Hf
    iexact Hr
  iexact Hk

/-- The copy to a device `n` that is the target of `c`: the whole block, over whatever the target made room in. -/
theorem wp_post (c n : Dev nD) (hn : n = target σ c) {hsc : (resM : Memref sig (Dev.tc n : Thread nD τ).2.kind .vmem S1x256x256 .f32).view.ref.isScScratch = false}
    {hsrc : blkM.view.WordExact} {hdst : resM.view.WordExact}
    {hsem : DmaTarget.Typed .vmem arrive (.remote (Dev.tc n : Thread nD τ) resM depart hsc)}
    (W : Waits sig Unit) (f : (cc0_stg2_0 : Ref sig .tc).ty.Contents (Elt F)) {α : Type} {Q : α → sProp 𝕄}
    {k : PUnit → Prog (TpuEff nD τ sig (Elt F) Λ₀ .tc) α} :
    iprop(cellInv swap (plan m σ) (κ (at_ c depart)) (at_ c depart)
        ∗ cellInv swap (plan m σ) (κ (at_ (target σ c) arrive)) (at_ (target σ c) arrive)
        ∗ holds c cc0_stg1_0 (stagedBlk m c) ∗ holds (target σ c) cc0_stg2_0 f ∗ owes (c : Thread nD τ) (oweBlock σ c) W
        ∗ dutyTok swap (at_ c depart) 0 () ∗ reached swap (at_ c depart) 0
        ∗ dutyTok swap (at_ (target σ c) arrive) 0 () ∗ reached swap (at_ (target σ c) arrive) 0)
      ⊢ iprop(((cred (tallyAt (at_ c depart) () bytes) ∗ owes (c : Thread nD τ) 0 W)
            -∗ wp frame (wpE (defs₀ (F := F)) noVar (c : Thread nD τ) none) Set.univ (k ⟨⟩) Q)
        -∗ wp frame (wpE (defs₀ (F := F)) noVar (c : Thread nD τ) none) Set.univ
            (.op (.enqueueDma blkM (.remote (Dev.tc n : Thread nD τ) resM depart hsc) arrive hsrc hdst hsem) k) Q) := by
  subst hn
  have hsrcAll : blkM.view.set = Finset.univ := View.set_whole _
  have hdstAll : resM.view.set = Finset.univ := View.set_whole _
  have landed : resM.view.write (Elt F) f (blkM.view.read (Elt F) (stagedBlk m c)) Finset.univ = stagedBlk m c :=
    View.write_whole_univ _ _ _
  have h := Rounds.wp_send_pointsTo noVar swap (plan m σ) (c : Thread nD τ) none (src := blkM) (dst := resM)
    (c' := (target σ c : Thread nD τ)) (hsc := hsc) (hsrc := hsrc) (hdst := hdst) (hsem := hsem) (k := k) (Q := Q)
    (q := fullShare) (fs := stagedBlk m c) (fd := f) (κ₁ := κ (at_ c depart)) (κ₂ := κ (at_ (target σ c) arrive))
    (defs := defs₀ (F := F)) (Γ := .empty) (Es := Set.univ)
    (duty_mem m σ c 1) (duty_mem m σ (target σ c) 2) () () bytes rfl (amount_depart m σ c 0 ()) (amount_arrive m σ (target σ c) 0 ())
    (O₀ := oweBlock σ c) 0 (by rw [zero_add]; rfl) (W := W)
    (by rw [hsrcAll]; exact Entails.of_eq (payload_depart m σ c 0 ()).symm)
    (by
      rw [hdstAll]
      refine BI.Entails.trans ?_ (Entails.of_eq (payload_arrive m σ (target σ c) 0 ()).symm)
      rw [source_target]
      rw [landed]
      exact BI.Entails.refl _)
  rw [hsrcAll, hdstAll] at h
  exact h

end Steps

/-! ## The run of the body -/

/-- The source, as the kernel computes it of the words it read. -/
theorem source_of_words (c : Dev nD) {w0 w1 w2 w3 : BitVec 32} (h : k0_chk1 c w0 w1 w2 w3) (h0 : w0 = word σ 0)
    (h1 : w1 = word σ 1) (h2 : w2 = word σ 2) (h3 : w3 = word σ 3) :
    (⟨k0_dev1 c w0 w1 w2 w3, k0_dev1_lt _ _ _ _ _ h⟩ : Dev nD) = source σ c := by
  subst h0 h1 h2 h3; exact dev1_eq σ c h

/-- The target, as the kernel computes it of the word it read. -/
theorem target_of_word (c : Dev nD) {w : BitVec 32} (h : k0_chk2 c w) (hw : w = word σ (place c)) :
    (⟨k0_dev2 c w, k0_dev2_lt _ _ h⟩ : Dev nD) = target σ c := by
  subst hw; exact dev2_eq σ c h

/-- What the body starts from: the start of the device, its debts, and the three staging buffers. -/
def bodyIn (c : Dev nD) : sProp 𝕄 :=
  iprop(start m σ c ∗ (data m σ 0 c).owesAt () t0_0.castSucc ∗ (∃ d, holds c cc0_stg0_0 ((data m σ 0 c).before (0 : Fin 3) t0_0 d))
    ∗ (∃ d, holds c cc0_stg1_0 ((data m σ 0 c).before (1 : Fin 3) t0_0 d)) ∗ (∃ d, holds c cc0_stg2_0 ((data m σ 0 c).before (2 : Fin 3) t0_0 d)))

/-- What the body ends with: the semaphores at zero, no debts, and the three staging buffers. -/
def bodyOut (c : Dev nD) : sProp 𝕄 :=
  iprop(finish c ∗ (data m σ 0 c).owesAt () t0_0.succ ∗ holds c cc0_stg0_0 (stagedTbl m c) ∗ holds c cc0_stg1_0 (stagedBlk m c)
    ∗ holds c cc0_stg2_0 (stagedBlk m (source σ c)))

set_option maxHeartbeats 4000000 in
/-- The body on device `c`, one rule per step in the order of the program. -/
theorem body_run (c : Dev nD) (hm : m ((c : Thread nD τ).loc main_arg1) = table σ) :
    bodyIn m σ c ⊢ wp frame (wpE (defs₀ (F := F)) noVar (c : Thread nD τ) none) Set.univ
      (cc0_body (Memref.whole cc0_stg0_0) (Memref.isWhole_whole _) (Memref.whole cc0_stg1_0) (Memref.isWhole_whole _)
        (Memref.whole cc0_stg2_0) (Memref.isWhole_whole _) cc0_scratch0 cc0_scratch1) (fun _ => bodyOut m σ c) := by
  have hb0 (d) : (data m σ 0 c).before (0 : Fin 3) t0_0 d = stagedTbl m c := by unfold Dat.before; rw [if_pos (fetch0_0 t0_0)]; rfl
  have hb1 (d) : (data m σ 0 c).before (1 : Fin 3) t0_0 d = stagedBlk m c := by unfold Dat.before; rw [if_pos (fetch0_1 t0_0)]; rfl
  have hw (off : Fin 1 → ℕ) (h) (j : Fin 4) (hj : off 0 = j.val) := wordAt_eq m σ c hm off h j hj
  have hmine := hw (k0_off1 c) (k0_off1_inb c) (place c) (by rw [k0_off1_eq]; rfl)
  have h0 := hw ![0] inb_S4_S1_0 0 rfl
  have h1 := hw ![1] inb_S4_S1_1 1 rfl
  have h2 := hw ![2] inb_S4_S1_2 2 rfl
  have h3 := hw ![3] inb_S4_S1_3 3 rfl
  have hchk : k0_chk2 c (wordAt (stagedTbl m c) (k0_off1 c) (k0_off1_inb c)) := hmine ▸ chk2_word σ c
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold bodyIn start dealt invs marks places pays
  simp only [hb0, hb1]
  iintro ⟨⟨⟨%κ, ⟨⟨#Ib, #Id, #Ia, #Is, #It⟩, #Rs, #Rd, #Rt⟩, ⟨Ab, Ad, Aa⟩, ⟨Ts, Td, Tt⟩⟩, Cb, Ca, #Lv⟩, Ho, ⟨%d0, Htbl⟩, ⟨%d1, Hblk⟩, ⟨%d2, Hres⟩⟩
  unfold Dat.owesAt Pipeline.owesWithin
  icases Ho with ⟨%W, %hW, HO⟩
  rw [show (data m σ 0 c).owed t0_0.castSucc = oweBoth σ c from rfl]
  -- the device's own word
  iapply (wp_load_rect noVar (c : Thread nD τ) none Set.univ (m := tblM) (r := Rect.unit (s := S4) (k0_off1 c) S1.size (k0_off1_inb c)) (Finset.subset_univ _)) $$ Htbl; iintro Htbl
  simp only [wp_assume_of _ _ _ _ (d := k0_chk2.dec _ _) hchk]
  -- the four words
  iapply (wp_load_rect noVar (c : Thread nD τ) none Set.univ (m := tblM) (r := Rect.unit (s := S4) ![0] S1.size inb_S4_S1_0) (Finset.subset_univ _)) $$ Htbl; iintro Htbl
  iapply (wp_load_rect noVar (c : Thread nD τ) none Set.univ (m := tblM) (r := Rect.unit (s := S4) ![1] S1.size inb_S4_S1_1) (Finset.subset_univ _)) $$ Htbl; iintro Htbl
  iapply (wp_load_rect noVar (c : Thread nD τ) none Set.univ (m := tblM) (r := Rect.unit (s := S4) ![2] S1.size inb_S4_S1_2) (Finset.subset_univ _)) $$ Htbl; iintro Htbl
  iapply (wp_load_rect noVar (c : Thread nD τ) none Set.univ (m := tblM) (r := Rect.unit (s := S4) ![3] S1.size inb_S4_S1_3) (Finset.subset_univ _)) $$ Htbl; iintro Htbl
  simp only [wp_assume_of _ _ _ _ (d := k0_chk1.dec _ _ _ _ _) (k0_chk1_all c _ _ _ _)]
  -- the signal to the source
  iapply (wp_tell m σ κ c _ (source_of_words σ c (k0_chk1_all c _ _ _ _) h0 h1 h2 h3) W _) $$ [HO Ts Hres]
  · isplitr; · iexact Is
    isplitl [HO]; · iexact HO
    isplitl [Ts]; · iexact Ts
    isplitl [Hres]; · iexact Hres
    iexact Rs
  iintro HO
  -- the wait for the target's room
  iapply (wp_await m σ κ c 0 (wpE_semWait_eq (defs := defs₀ (F := F)) (𝒱 := noVar) (c := (c : Thread nD τ)) (bd := none) (E := Set.univ)) (amount_barrier m σ c 0 ()).symm (oweBlock σ c) W) $$ [Cb HO Ab]
  · isplitr; · iexact Ib
    isplitl [Cb]; · iexact Cb
    isplitl [HO]; · iexact HO
    isplitr; · iapply (mayWait_barrier σ c); iexact Lv
    iexact Ab
  iintro ⟨HO, Zb, Hroom⟩
  ihave Hroom' := (Entails.of_eq (payload_barrier m σ c 0 ())) $$ Hroom
  unfold room
  icases Hroom' with ⟨%f, Hroom'⟩
  -- the copy
  iapply (wp_post m σ κ c _ (target_of_word σ c hchk hmine) _ f) $$ [Hblk Hroom' HO Td Tt]
  · isplitr; · iexact Id
    isplitr; · iexact It
    isplitl [Hblk]; · iexact Hblk
    isplitl [Hroom']; · iexact Hroom'
    isplitl [HO]; · iexact HO
    isplitl [Td]; · iexact Td
    isplitr; · iexact Rd
    isplitl [Tt]; · iexact Tt
    iexact Rt
  iintro ⟨Cd, HO⟩
  -- the block has left
  iapply (wp_await m σ κ c 1 (n := bytes) (wpE_waitDma2_eq (src := resM) (dst := blkM) (defs := defs₀ (F := F)) (𝒱 := noVar) (c := (c : Thread nD τ)) (bd := none) (E := Set.univ)) (amount_depart m σ c 0 ()).symm 0 _) $$ [Cd HO Ad]
  · isplitr; · iexact Id
    isplitl [Cd]; · iexact Cd
    isplitl [HO]; · iexact HO
    isplitr; · rw [MayWait_zero]; iempintro
    iexact Ad
  iintro ⟨HO, Zd, Hblk⟩
  -- the source's block has arrived
  iapply (wp_await m σ κ c 2 (wpE_waitDma2_eq (src := blkM) (dst := resM) (defs := defs₀ (F := F)) (𝒱 := noVar) (c := (c : Thread nD τ)) (bd := none) (E := Set.univ)) (amount_arrive m σ c 0 ()).symm 0 _) $$ [Ca HO Aa]
  · isplitr; · iexact Ia
    isplitl [Ca]; · iexact Ca
    isplitl [HO]; · iexact HO
    isplitr; · rw [MayWait_zero]; iempintro
    iexact Aa
  iintro ⟨HO, Za, Hres⟩
  rw [wp_ret]; imodintro
  unfold bodyOut finish Dat.owesAt Pipeline.owesWithin
  rw [show (data m σ 0 c).owed t0_0.succ = 0 from rfl]
  isplitl [Zb Zd Za]
  · isplitl [Zb]; · iexact Zb
    isplitl [Zd] <;> iassumption
  isplitl [HO]
  · iexists _
    isplitr
    rotate_left
    · iexact HO
    · ipureintro; exact fun _ _ => Or.inl trivial
  isplitl [Htbl]; · iexact Htbl
  isplitl [Hblk]
  · iapply (Entails.of_eq (payload_depart m σ c 0 ())); iexact Hblk
  iapply (Entails.of_eq (payload_arrive m σ c 0 ())); iexact Hres

set_option maxRecDepth 4000 in
/-- The body at the pipeline's one point. -/
theorem body_point (c : Dev nD) (hm : m ((c : Thread nD τ).loc main_arg1) = table σ) :
    BodyObligation (data (F := F) m σ 0 c) (defs₀ (F := F)) noVar () Set.univ := fun t => by
  rw [fin_N0 t]
  rw [bigSep_W0, bigSep_W0]
  simp only [owns_whole]
  exact body_run m σ c hm

end Cert.Permute

end
-- ==== Proof.Run.lean ====
/-
# The run of the kernel

The launch for a table that is a permutation's: the cells' invariants are made once for all devices, each device is dealt
the duties of the cells it pays (the barrier of its source, its own departure cell, the arrival cell of its target), and
the body's rule does the rest. The run's end: every device's result is the block of `x` of its source.
-/
module

public import proofs.«01_k».proof.Proof.Body
public import Idealize.ShloMosaic.Lib.Pipeline.ValueKit.Geometry

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg) (σ : Equiv.Perm (Fin 4))

/-! ## What the launch deals -/

/-- The duties of the exchange: one for each cell, in round 0. -/
def duties : Finset (GSem nD τ sig × ℕ × Unit) :=
  Finset.univ.map ⟨fun ck : Dev nD × Fin 3 => (cellNo ck, 0, ()), fun _ _ h => cellNo_injective (congrArg Prod.fst h)⟩

/-- The ghost state at the launch: the pipeline's and the exchange's. -/
def seed : Ghost :=
  (initOf (Pipeline.cells cfgs cellOf_inj) (Pipeline.launchToks cfgs cellOf_inj), launchOf cells ∅ duties)

/-- The exchange's part, all of it put at device 0. -/
def purse (c : Dev nD) : sProp 𝕄 := if c = 0 then BI.own (swap (launchOf cells ∅ duties)) else iprop(emp)

omit [FloatOps F] in
/-- Over all devices the purse is the exchange's part. -/
theorem purse_all : (bigSep Finset.univ fun c : Dev nD => (purse c : sProp 𝕄)) = BI.own (swap (launchOf cells ∅ duties)) := by
  have h0 : (purse (0 : Dev nD) : sProp 𝕄) = BI.own (swap (launchOf cells ∅ duties)) := if_pos rfl
  have h1 : (bigSep (Finset.univ.erase (0 : Dev nD)) fun c => (purse c : sProp 𝕄)) = iprop(emp) :=
    (bigSep_congr fun c hc => if_neg (Finset.ne_of_mem_erase hc)).trans (bigSep_emp_const _)
  rw [bigSep_univ_at _ (0 : Dev nD), h0, h1]
  exact equiv_iff.mp sep_emp

omit [FloatOps F] in
/-- Something for each cell is something for each of a device's three semaphores, for each device. -/
theorem over_cells (Φ : GSem nD τ sig → sProp 𝕄) :
    bigSep cells Φ = bigSep Finset.univ fun c : Dev nD => iprop(Φ (at_ c barrier) ∗ Φ (at_ c depart) ∗ Φ (at_ c arrive)) := by
  unfold cells
  rw [bigSep_map, bigSep_univ_prod]
  exact bigSep_congr fun c _ => bigSep_univ_eq_bigSepL [(0 : Fin 3), 1, 2] (by decide) (by decide) _

omit [FloatOps F] in
/-- The same for the duties. -/
theorem over_duties (Φ : GSem nD τ sig × ℕ × Unit → sProp 𝕄) :
    bigSep duties Φ
      = bigSep Finset.univ fun c : Dev nD => iprop(Φ (at_ c barrier, 0, ()) ∗ Φ (at_ c depart, 0, ()) ∗ Φ (at_ c arrive, 0, ())) := by
  unfold duties
  rw [bigSep_map, bigSep_univ_prod]
  exact bigSep_congr fun c _ => bigSep_univ_eq_bigSepL [(0 : Fin 3), 1, 2] (by decide) (by decide) _

omit [FloatOps F] in
/-- The two scoped semaphores at zero. -/
theorem scoped_sems (c : Dev nD) :
    (Pipeline.ownSems0 (Ix := Unit) (Name := ℕ) (U := Ghost) (Lvl := ℕ) (Val := Elt F) (τ := τ) scopedNo c : sProp 𝕄)
      = iprop(semVal (at_ c depart) 0 ∗ semVal (at_ c arrive) 0) := by
  rw [Pipeline.ownSems0_eq_of_list c scopedNo [0, 1] (by decide) (by decide)]; rfl

omit [FloatOps F] in
/-- The barrier semaphore at zero. -/
theorem barrier_sem (c : Dev nD) : (unscopedSems0 c : sProp 𝕄) = semVal (at_ c barrier) 0 := by
  unfold unscopedSems0; rw [bigSep_eq_bigSepL_of_eq [barrier] (by decide) (by decide)]; rfl

/-- What every device may know: the invariants of all cells, and that all are at round 0. -/
def known (κ : GSem nD τ sig → ℕ) : sProp 𝕄 :=
  iprop((bigSep cells fun g => cellInv swap (plan m σ) (κ g) g) ∗ bigSep cells fun g => reached swap g 0)

/-- What every device knows of the cells may be used any number of times. -/
instance known_persistent (κ : GSem nD τ sig → ℕ) : BI.Persistent (known (F := F) m σ κ) := by unfold known; infer_instance

/-- One device's part of it, with its own positions and duties, is what it is dealt. -/
theorem dealt_of_known (κ : GSem nD τ sig → ℕ) (c : Dev nD) :
    iprop(known m σ κ ∗ places c ∗ pays σ c) ⊢ dealt (F := F) m σ c := by
  have hI (d : Dev nD) (k : Fin 3) : (bigSep cells fun g => (cellInv swap (plan m σ) (κ g) g : sProp 𝕄))
      ⊢ cellInv swap (plan m σ) (κ (at_ d (semNo k))) (at_ d (semNo k)) := bigSep_elim (mem_cells d k)
  have hR (d : Dev nD) (k : Fin 3) : (bigSep cells fun g => (reached swap g 0 : sProp 𝕄)) ⊢ reached swap (at_ d (semNo k)) 0 :=
    bigSep_elim (mem_cells d k)
  unfold known dealt invs marks
  iintro ⟨⟨#HI, #HR⟩, Hp, Hd⟩
  iexists κ
  isplitr [Hp Hd]
  · isplitr
    · isplitr; · iapply (hI c 0); iexact HI
      isplitr; · iapply (hI c 1); iexact HI
      isplitr; · iapply (hI c 2); iexact HI
      isplitr; · iapply (hI (source σ c) 0); iexact HI
      iapply (hI (target σ c) 2); iexact HI
    · isplitr; · iapply (hR (source σ c) 0); iexact HR
      isplitr; · iapply (hR c 1); iexact HR
      iapply (hR (target σ c) 2); iexact HR
  isplitl [Hp] <;> iassumption

omit [FloatOps F] in
/-- The duties of the cells, dealt to the devices that pay them. -/
theorem pays_of_duties : bigSep duties (fun x => (dutyTok swap x.1 x.2.1 x.2.2 : sProp 𝕄)) ⊢ bigSep Finset.univ (pays (F := F) σ) := by
  rw [over_duties]
  unfold pays
  rw [bigSep_sep', bigSep_sep', bigSep_sep', bigSep_sep',
    bigSep_univ_equiv (moved σ).symm (fun c : Dev nD => (dutyTok swap (at_ c barrier) 0 () : sProp 𝕄)),
    bigSep_univ_equiv (moved σ) (fun c : Dev nD => (dutyTok swap (at_ c arrive) 0 () : sProp 𝕄))]
  exact BI.Entails.refl _

omit [FloatOps F] in
/-- All semaphores at zero, and the purse, collected over the devices. -/
theorem collected :
    (bigSep Finset.univ fun c => iprop(Pipeline.ownSems0 (Ix := Unit) (Name := ℕ) (U := Ghost) (Lvl := ℕ) (Val := Elt F) (τ := τ) scopedNo c
        ∗ unscopedSems0 c ∗ purse c) : sProp 𝕄)
      ⊢ iprop(bigSep cells (fun g => semVal g 0) ∗ BI.own (swap (launchOf cells ∅ duties))) := by
  simp only [scoped_sems, barrier_sem]
  rw [over_cells, bigSep_sep', bigSep_sep', bigSep_sep', bigSep_sep', bigSep_sep', purse_all]
  iintro ⟨⟨Hd, Ha⟩, Hb, Hu⟩
  isplitr [Hu]
  · isplitl [Hb]; · iexact Hb
    isplitl [Hd] <;> iassumption
  · iexact Hu

/-- The launch deals to every device at once. -/
theorem deal :
    (bigSep Finset.univ fun c => iprop(Pipeline.ownSems0 (Ix := Unit) (Name := ℕ) (U := Ghost) (Lvl := ℕ) (Val := Elt F) (τ := τ) scopedNo c
        ∗ unscopedSems0 c ∗ purse c) : sProp 𝕄)
      ⊢ |={Set.univ}=> bigSep Finset.univ (dealt m σ) := by
  iintro H
  ihave H' := (collected (F := F)) $$ H
  imod (Rounds.fund_launch swap (plan (F := F) m σ) (S := cells) (Sd := ∅) (Finset.disjoint_empty_right _)
    (fun g hg => absurd hg (Finset.notMem_empty g)) duties (Es := Set.univ)) $$ H' with ⟨%κ, -, HI, HR, HA, -, HT⟩
  imodintro
  ihave HI' := (Entails.of_eq (by rw [Finset.union_empty] :
    bigSep (cells ∪ ∅) (fun g => (cellInv swap (plan m σ) (κ g) g : sProp 𝕄)) = bigSep cells fun g => cellInv swap (plan m σ) (κ g) g)) $$ HI
  ihave HP := (pays_of_duties (F := F) σ) $$ HT
  ihave HA' := (Entails.of_eq (over_cells (F := F) fun g => atPos swap g 0 ∅ 0)) $$ HA
  have hall : iprop(known m σ κ ∗ bigSep Finset.univ fun c : Dev nD => iprop(places c ∗ pays σ c)) ⊢ bigSep Finset.univ (dealt (F := F) m σ) :=
    (sep_mono_left (BI.bigSep_of_persistent Finset.univ (known m σ κ))).trans
      (by rw [← bigSep_sep']; exact bigSep_mono fun c _ => dealt_of_known m σ κ c)
  iapply hall
  isplitl [HI' HR]
  · unfold known; isplitl [HI'] <;> iassumption
  iapply (Entails.of_eq (bigSep_sep' Finset.univ (places (F := F)) (pays σ)).symm)
  isplitl [HA']; · iexact HA'
  iexact HP

omit [FloatOps F] in
/-- The credit that the launch gives a device: a unit at its barrier, a block at its arrival cell. -/
theorem credit (c : Dev nD) :
    (Pipeline.launchCred (oweBoth σ) c : sProp 𝕄) ⊢ iprop(cred (tallyAt (at_ c barrier) () 1) ∗ cred (tallyAt (at_ c arrive) () bytes)) := by
  have e : (Pipeline.launchCred (oweBoth σ) c : sProp 𝕄)
      = iprop(Pipeline.launchCred (oweBlock σ) c ∗ Pipeline.launchCred (oweUnit σ) c) := Pipeline.launchCred_add _ _ c
  rw [e]
  iintro ⟨Ha, Hb⟩
  isplitl [Hb]
  · iapply (Pipeline.launchCred_tallyAt barrier (source σ) (target σ) (source_target σ) (target_source σ) () 1 c); iexact Hb
  · iapply (Pipeline.launchCred_tallyAt arrive (target σ) (source σ) (target_source σ) (source_target σ) () bytes c); iexact Ha

/-! ## The side conditions of the launch -/

/-- The exchange's two copy semaphores are the call's own, none of them a staging copy's. -/
theorem scopedNo_facts : Pipeline.OwnSemFacts cfg0.spec scopedNo := by decide

/-- Every array is held whole. -/
theorem share_full (c : Dev nD) (w : Fin cfg0.W) : (data (F := F) m σ 0 c).share w = fullShare := by
  unfold Dat.share; split <;> rfl

/-- What the launch gives is what a device starts from. -/
theorem start_of_launch (c : Dev nD) :
    iprop(Pipeline.unscopedRestP Pipeline.Prefetch.none cfg0.spec c (fun b => m ((c : Thread nD τ).loc b)) ∗ levAts levelled level
        ∗ Pipeline.launchCred (oweBoth σ) c ∗ prngReg c (ρ c) ∗ dealt m σ c)
      ⊢ |={Set.univ}=> iprop(start m σ c ∗ emp) := by
  iintro ⟨-, Hl, Hc, -, Hd⟩
  ihave Hc' := (credit (F := F) σ c) $$ Hc
  icases Hc' with ⟨Cb, Ca⟩
  imodintro
  unfold start
  isplitl
  · isplitl [Hd]; · iexact Hd
    isplitl [Cb]; · iexact Cb
    isplitl [Ca] <;> iassumption
  · iempintro

/-- What a device starts from is what the body's first step asks. -/
theorem enter (c : Dev nD) :
    iprop(start m σ c ∗ Pipeline.prefHeld Pipeline.Prefetch.none c (fun _ => fullShare.right) (fun k => k.elim0)
        ∗ Pipeline.scopedRest cfg0.spec c)
      ⊢ (data (F := F) m σ 0 c).Φ 0 := by
  rw [show (data (F := F) m σ 0 c).Φ 0 = start m σ c from rfl]
  iintro ⟨Hs, -, -⟩
  iexact Hs

/-- What the body leaves gives every counter of the call and the barrier back at zero. -/
theorem leave (c : Dev nD) :
    (data (F := F) m σ 0 c).Φ (Fin.last cfg0.N) ⊢ iprop(unscopedSems0 c ∗ Pipeline.ownSems0 scopedNo c ∗ Pipeline.scopedRest cfg0.spec c) := by
  rw [show (data (F := F) m σ 0 c).Φ (Fin.last cfg0.N) = finish c from rfl, scopedRest0_eq, scoped_sems, barrier_sem]
  unfold finish
  iintro ⟨Zb, Zd, Za⟩
  isplitl [Zb]; · iexact Zb
  isplitl
  · isplitl [Zd] <;> iassumption
  · iempintro

/-- The staging copies' waits are below what a device owes. -/
theorem staging_waits (c : Dev nD) : (levAts levelled level : sProp 𝕄) ⊢ Pipeline.cellsWaits cfgs (data (F := F) m σ) () 0 c :=
  Pipeline.cellsWaits_intro cfgs (data m σ) () 0 c fun w s t => by
    have hs : ∀ (w : Fin 3) (s : Fin ((cfg0.win w).nbuf)),
        (.dma ((cfg0.win w).sem s) : SemLoc sig) ≠ barrier ∧ (.dma ((cfg0.win w).sem s) : SemLoc sig) ≠ arrive := by decide
    rcases t with ⟨_ | _, ht⟩
    · exact mayWait_staging σ c _ (hs w s)
    · show _ ⊢ MayWait _ _ () 0
      rw [MayWait_zero]; iintro -; iempintro

/-! ## The run -/

set_option maxRecDepth 8000 in
/-- From a memory whose tables are all the permutation's, every run ends with the three arrays of every device at what the
    pipeline's data say, and every semaphore at zero. -/
theorem run_arrays (hm : ∀ c : Dev nD, m ((c : Thread nD τ).loc main_arg1) = table σ) :
    θ_run defs (onTc (τ := τ) (main (F := F))) ⟨m, fun _ => 0, ρ⟩ (fun r =>
      (∀ (c : Dev nD) (w : Fin cfg0.W),
        r.2.mem ((cfg0.win w).arr.view.loc (c : Thread nD τ)) = (data m σ 0 c).arrAt w cfg0.N) ∧ r.2.sem = fun _ => 0) :=
  Pipeline.θ_run_region_owing_glob_pf (fun p => (cfgs p).toPCfg) (fun p => (cfgs p).toPCfg_adm) (data m σ) () cellOf_inj (0 : Fin 1)
    winFacts0.to₀ scopedNo_facts (Pipeline.PreFacts.none _) pipe defs₀ noVar m ρ main
    (hmain := fun _ => rfl)
    (hbody := fun c => body_point m σ c (hm c)) (hne := fun w => by fin_cases w <;> exact Nat.succ_pos _) (harr := arr_whole0)
    (hstage := stage_whole0) (hshare := share_full m σ) (hdistinct := winFacts0.arr_inj)
    (O₀ := oweBoth σ) (howed₀ := fun _ => rfl) (howedN := fun _ => rfl)
    (L := levelled) (lv := level) (hL := fun g h => if_neg h) (hwaits := staging_waits m σ)
    (G := purse) (G' := dealt m σ) (u₀ := seed)
    (hu₀ := by
      unfold seed
      iintro Hu
      ihave H := (ownU_pair _ _) $$ Hu
      icases H with ⟨Hp, Hs⟩
      imodintro
      isplitl [Hp]; · iexact Hp
      iapply (Entails.of_eq (purse_all (F := F)).symm)
      iexact Hs)
    (hglob := deal m σ)
    (hA := fun _ _ => rfl) (hpf := fun _ k => k.elim0)
    (X := start m σ) (Y := fun c => unscopedSems0 c) (Z := fun _ => iprop(emp))
    (hX := start_of_launch m ρ σ) (hin := enter m σ) (hout := leave m σ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array of device `c` ends with the block of `x` of the source of `c`. -/
theorem result_array (c : Dev nD) : (data m σ 0 c).arrAt (2 : Fin 3) cfg0.N = m ((source σ c : Thread nD τ).loc main_arg0) := by
  refine (data m σ 0 c).arrAt_eq_of_after_last (2 : Fin 3) t0_0 (by decide +kernel) _ fun j => ?_
  show stagedBlk m (source σ c) j = _
  rw [stagedBlk_eq]
  rfl

/-- From a memory whose tables are all the permutation's, every run ends with the result of every device the block of `x`
    of its source, the arguments as they were, and every semaphore at zero. -/
theorem run_main (hm : ∀ c : Dev nD, m ((c : Thread nD τ).loc main_arg1) = table σ) :
    θ_run defs (onTc (τ := τ) (main (F := F))) ⟨m, fun _ => 0, ρ⟩ (fun r =>
      (∀ c : Dev nD, r.2.mem ((c : Thread nD τ).loc main_v1) = m ((source σ c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r h => ⟨fun c =>
    ⟨(h.1 c 2).trans (result_array m σ c), (h.1 c 1).trans ((data m σ 0 c).arrAt_in (1 : Fin 3) rfl _),
      (h.1 c 0).trans ((data m σ 0 c).arrAt_in (0 : Fin 3) rfl _)⟩, h.2⟩) (run_arrays m ρ σ hm)

end Cert.Permute

end
-- ==== Proof.Ref.lean ====
/-
# The value of the reference

The reference sorts the table together with the numbers 0 to 3, which makes the positions at which the values 0, 1, 2, 3
stand, and takes the blocks of the array in that order. At the table of a permutation `σ` those positions are
`σ⁻¹ 0, …, σ⁻¹ 3`, so block `z` of the result is block `σ⁻¹ z` of the array: the block of the device that sends to place
`z`.
-/
module

public import proofs.«01_k».proof.Proof.Gen.ReferenceIdeal
public import proofs.«01_k».proof.Proof.Gen.ReferenceIdeal.Run
public import proofs.«01_k».proof.Proof.Places
public import Idealize.ShloMosaic.Lib.Layout

@[expose] public section

noncomputable section

namespace Cert.Permute

open Idealize.ShloMosaic

/-- The positions that the sort of the table `p` gives. -/
abbrev order (p : IVec ReferenceIdeal.S4 32) : IVec ReferenceIdeal.S4 32 :=
  (Host.sort2 ReferenceIdeal.S4 0 ReferenceIdeal.comparator_i32_i32_d0 p (iotaInDim ReferenceIdeal.S4 32 0)).2

/-- Those positions with four added to a negative one, as the take along the leading axis reads them. -/
abbrev wrapped (p : IVec ReferenceIdeal.S4 32) : IVec ReferenceIdeal.S4 32 :=
  select (cmpi .slt (order p)
      (broadcastInDim ReferenceIdeal.S4 ![] ReferenceIdeal.Gen.bcast_S_S4 (constantI ReferenceIdeal.S_ 32 0#32)))
    (addi (order p)
      (broadcastInDim ReferenceIdeal.S4 ![] ReferenceIdeal.Gen.bcast_S_S4 (constantI ReferenceIdeal.S_ 32 4#32)))
    (order p)

/-- The index of the one-axis array of length four at `k`. -/
abbrev at4 (k : Fin 4) : ReferenceIdeal.S4.Idx := fun a => k.cast (by revert a; decide)

/-- At the table of `σ` the position taken for block `k` is `σ⁻¹ k`. -/
theorem wrapped_at : ∀ (σ : Equiv.Perm (Fin 4)) (k : Fin 4),
    wrapped (table σ) (at4 k) = BitVec.ofNat 32 (σ.symm k).val := by
  decide +kernel

/-- The index of the array at block `b`, and at the second and third coordinates of `j`. -/
def inBlock (b : Fin 4) (j : ReferenceIdeal.S4x256x256.Idx) : ReferenceIdeal.S4x256x256.Idx := fun a =>
  match a with
  | ⟨0, _⟩ => b
  | ⟨1, _⟩ => j 1
  | ⟨2, _⟩ => j 2

/-- The leading coordinate of that index is the block. -/
theorem inBlock_zero (b : Fin 4) (j : ReferenceIdeal.S4x256x256.Idx) : inBlock b j 0 = b := rfl

/-- A block number, read as a signed word and kept at most 3, is itself. -/
theorem clamp : ∀ b : Fin 4, min (BitVec.ofNat 32 b.val).toInt.toNat 3 + 0 + 0 = b.val := by decide

/-- The column that the take reads its positions from holds the word `w` of its row. -/
theorem column_at (w : IVec ReferenceIdeal.S4 32) (i : ReferenceIdeal.S4x1.Idx) :
    broadcastInDim ReferenceIdeal.S4x1 ![0] ReferenceIdeal.Gen.bcast_S4_S4x1_0 w i = w (at4 (i 0)) := by
  unfold broadcastInDim
  congr 1
  funext a
  have ha : a = 0 := Subsingleton.elim _ _
  subst ha
  apply Fin.ext
  rfl

/-- The take reads, at each index, the block whose number stands at the leading coordinate. -/
theorem take_at {α : Type} (x : ReferenceIdeal.S4x256x256.Idx → α) (w : IVec ReferenceIdeal.S4 32)
    (j : ReferenceIdeal.S4x256x256.Idx) (b : Fin 4) (hb : w (at4 (j 0)) = BitVec.ofNat 32 b.val) :
    Host.gather ReferenceIdeal.gather_S4x256x256_S4x1_S4x256x256_12_0_n_n_0_1_1256256 x
      (broadcastInDim ReferenceIdeal.S4x1 ![0] ReferenceIdeal.Gen.bcast_S4_S4x1_0 w) j = x (inBlock b j) := by
  unfold Host.gather
  congr 1
  funext a
  apply Fin.ext
  match a with
  | ⟨0, _⟩ =>
    have hs : (inBlock b j 0).val = b.val := congrArg Fin.val (inBlock_zero b j)
    refine Eq.trans ?_ hs.symm
    show min ((broadcastInDim ReferenceIdeal.S4x1 ![0] ReferenceIdeal.Gen.bcast_S4_S4x1_0 w) _).toInt.toNat 3 + 0 + 0 = b.val
    rw [column_at]
    refine Eq.trans (congrArg (fun v : BitVec 32 => min v.toInt.toNat 3 + 0 + 0) (Eq.trans ?_ hb)) ?_
    · rfl
    · exact clamp b
  | ⟨1, _⟩ => show 0 + 0 + (j 1).val = (j 1).val; omega
  | ⟨2, _⟩ => show 0 + 0 + (j 2).val = (j 2).val; omega

/-- Device `c`'s block of the reference's result, at the table of `σ`, is the block of the array of the device that sends
    to `c`. -/
theorem block_value {α : Type} (σ : Equiv.Perm (Fin 4)) (c : Dev KernelIdeal.nD) (x : ReferenceIdeal.S4x256x256.Idx → α) :
    Layout.blockN ⟨3, ![1, 256, 256]⟩ ⟨3, ![4, 256, 256]⟩ (Layout.meshBlock [2, 2, 4] ![[2], [], []] (source σ c)) x
      = Layout.blockN ⟨3, ![1, 256, 256]⟩ ⟨3, ![4, 256, 256]⟩ (Layout.meshBlock [2, 2, 4] ![[2], [], []] c)
          (Host.gather ReferenceIdeal.gather_S4x256x256_S4x1_S4x256x256_12_0_n_n_0_1_1256256 x
            (broadcastInDim ReferenceIdeal.S4x1 ![0] ReferenceIdeal.Gen.bcast_S4_S4x1_0 (wrapped (table σ)))) := by
  funext i
  have hi : (i 0).val = 0 := by have h : (i 0).val < 1 := (i 0).isLt; omega
  rw [Layout.blockN_apply, Layout.blockN_apply, take_at x _ _ (σ.symm (place c)) ?_]
  · congr 1
    funext a
    apply Fin.ext
    match a with
    | ⟨0, _⟩ =>
      refine Eq.trans ?_ (congrArg Fin.val (inBlock_zero _ _)).symm
      rw [Layout.TilesN.idx_val]
      show (((source σ c).val / 1) % 4 * 1 + 0) * 1 + (i 0).val = _
      have := (σ.symm (place c)).isLt
      simp only [source, atPlace]; omega
    | ⟨1, _⟩ => rfl
    | ⟨2, _⟩ => rfl
  · refine Eq.trans (congrArg (fun k => wrapped (table σ) (at4 k)) ?_) (wrapped_at σ (place c))
    apply Fin.ext
    rw [Layout.TilesN.idx_val]
    show ((c.val / 1) % 4 * 1 + 0) * 1 + (i 0).val = c.val % 4
    omega

end Cert.Permute

end
-- ==== Proof.Claims.lean ====
/-
# What is claimed, for a table at large

Each claim is stated here once, for any table `t` that some permutation makes; the claim at one table is an instance. What
is asked of the argument is that it agrees with `t` word by word on every device, as the predicates of the claims ask it.
-/
module

public import proofs.«01_k».proof.Defs
public import proofs.«01_k».proof.Proof.Gen.Kernel
public import proofs.«01_k».proof.Proof.Run
public import proofs.«01_k».proof.Proof.Ref
public import Idealize.ShloMosaic.Adequacy
public import Idealize.ShloMosaic.Init

@[expose] public section

noncomputable section

namespace Cert.Permute

open Idealize.ShloMosaic Idealize.ShloMosaic.TcCoe Idealize.SL.Sem

/-- The table `t` is that of some permutation. -/
abbrev Made (t : IVec KernelIdeal.S4 32) : Prop := ∃ σ : Equiv.Perm (Fin 4), ∀ k : Fin 4, t (at4 k) = word σ k

/-- Arrays that agree word by word with `t`, which a permutation makes, are that permutation's table. -/
theorem is_table {D : Type} {t : IVec KernelIdeal.S4 32} (ht : Made t) {p : D → IVec KernelIdeal.S4 32}
    (hp : ∀ c, cmpi .eq (p c) t = fun _ => 1#1) : ∃ σ : Equiv.Perm (Fin 4), ∀ c, p c = table σ := by
  obtain ⟨σ, hσ⟩ := ht
  refine ⟨σ, fun c => funext fun i => ?_⟩
  have hi : i = at4 (i 0) := by
    funext a
    have ha : a = 0 := Subsingleton.elim _ _
    subst ha; rfl
  have h : IntOp.cmpi .eq (p c i) (t i) = 1#1 := congrFun (hp c) i
  have h' : p c i = t i := by
    by_contra hne
    have h0 : IntOp.cmpi .eq (p c i) (t i) = 0#1 := by
      show BitVec.ofBool (p c i == t i) = 0#1
      rw [beq_false_of_ne hne]; rfl
    rw [h0] at h
    exact absurd h (by decide)
  rw [h', hi]
  exact hσ _

/-- The kernel at any float values: it ends, its arguments are kept and every counter is back at zero. -/
theorem frame_any {F : FTy → Type} [FloatOps F] {t : IVec KernelIdeal.S4 32} (ht : Made t)
    (m : (ℓ : Loc KernelIdeal.nD KernelIdeal.τ KernelIdeal.sig) → Buf (Elt F) ℓ) (ρ : Dev KernelIdeal.nD → PrngReg)
    (hp : ∀ c : Dev KernelIdeal.nD,
      cmpi .eq (m ((c.tc : Thread KernelIdeal.nD KernelIdeal.τ).loc KernelIdeal.main_arg1)) t = fun _ => 1#1) :
    θ_run (KernelIdeal.defs (F := F)) (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0)
            = m ((c.tc : Thread KernelIdeal.nD KernelIdeal.τ).loc KernelIdeal.main_arg0)
          ∧ r.2.mem ((c.tc : Thread KernelIdeal.nD KernelIdeal.τ).loc KernelIdeal.main_arg1)
            = m ((c.tc : Thread KernelIdeal.nD KernelIdeal.τ).loc KernelIdeal.main_arg1))
        ∧ r.2.sem = fun _ => 0) := by
  obtain ⟨σ, hσ⟩ := is_table ht hp
  exact (θ_run KernelIdeal.defs _ _).mono (fun r h => ⟨fun c => (h.1 c).2, h.2⟩) (run_main m ρ σ hσ)

set_option smartUnfolding false in
/-- The same of the kernel read at its bits, whose text is the one above under another name. -/
theorem frame_kernel {t : IVec KernelIdeal.S4 32} (ht : Made t)
    (m : (ℓ : Loc Kernel.nD Kernel.τ Kernel.sig) → Buf (Elt Bits) ℓ) (ρ : Dev Kernel.nD → PrngReg)
    (hp : ∀ c : Dev Kernel.nD,
      cmpi .eq (m ((c.tc : Thread Kernel.nD Kernel.τ).loc Kernel.main_arg1)) t = fun _ => 1#1) :
    θ_run (Kernel.defs (F := Bits)) (onTc (τ := Kernel.τ) (Kernel.main (F := Bits))) ⟨m, fun _ => 0, ρ⟩ (fun r =>
      (∀ c : Dev Kernel.nD,
        r.2.mem ((c.tc : Thread Kernel.nD Kernel.τ).loc Kernel.main_arg0)
            = m ((c.tc : Thread Kernel.nD Kernel.τ).loc Kernel.main_arg0)
          ∧ r.2.mem ((c.tc : Thread Kernel.nD Kernel.τ).loc Kernel.main_arg1)
            = m ((c.tc : Thread Kernel.nD Kernel.τ).loc Kernel.main_arg1))
        ∧ r.2.sem = fun _ => 0) :=
  frame_any (F := Bits) ht m ρ hp

/-- The reference ends, keeps its arguments and declares no semaphore. -/
theorem frame_reference (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
          ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0) :=
  (θ_run ReferenceIdeal.defs _ _).mono (fun r h => ⟨fun c => (h c).2, sem_eq_zero_of_no_sems (by decide) r.2⟩)
    (ReferenceIdeal.Value.run (F := Ideal) m ρ)

/-- The block of a whole array that device `c` holds. -/
abbrev part {α : Type} (c : Dev KernelIdeal.nD) (v : ReferenceIdeal.S4x256x256.Idx → α) :
    (⟨3, ![1, 256, 256]⟩ : Shape).Idx → α :=
  Layout.blockN ⟨3, ![1, 256, 256]⟩ ⟨3, ![4, 256, 256]⟩ (Layout.meshBlock [2, 2, 4] ![[2], [], []] c) v

/-- Kernel and reference end with the same values: each device's result is its block of the reference's. -/
theorem algebraic {t : IVec KernelIdeal.S4 32} (ht : Made t)
    (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ)
    (ρ' : Dev ReferenceIdeal.nD → PrngReg)
    (hp : ∀ c : Dev KernelIdeal.nD,
      cmpi .eq (m ((c.tc : Thread KernelIdeal.nD KernelIdeal.τ).loc KernelIdeal.main_arg1)) t = fun _ => 1#1)
    (ha : ∀ c : Dev KernelIdeal.nD,
      m ((c.tc : Thread KernelIdeal.nD KernelIdeal.τ).loc KernelIdeal.main_arg0)
          = part c (m' (((0 : Dev ReferenceIdeal.nD).tc : Thread ReferenceIdeal.nD ReferenceIdeal.τ).loc ReferenceIdeal.main_arg0))
        ∧ m ((c.tc : Thread KernelIdeal.nD KernelIdeal.τ).loc KernelIdeal.main_arg1)
          = m' (((0 : Dev ReferenceIdeal.nD).tc : Thread ReferenceIdeal.nD ReferenceIdeal.τ).loc ReferenceIdeal.main_arg1)) :
    ∃ v : Buf (Elt Ideal) (((0 : Dev ReferenceIdeal.nD).tc : Thread ReferenceIdeal.nD ReferenceIdeal.τ).loc ReferenceIdeal.main_v7),
      θ_run (KernelIdeal.defs (F := Ideal)) (onTc (τ := KernelIdeal.τ) (KernelIdeal.main (F := Ideal))) ⟨m, fun _ => 0, ρ⟩
        (fun r => ∀ c : Dev KernelIdeal.nD,
          r.2.mem ((c.tc : Thread KernelIdeal.nD KernelIdeal.τ).loc KernelIdeal.main_v1) = part c v
            ∧ r.2.mem ((c.tc : Thread KernelIdeal.nD KernelIdeal.τ).loc KernelIdeal.main_arg0)
              = m ((c.tc : Thread KernelIdeal.nD KernelIdeal.τ).loc KernelIdeal.main_arg0)
            ∧ r.2.mem ((c.tc : Thread KernelIdeal.nD KernelIdeal.τ).loc KernelIdeal.main_arg1)
              = m ((c.tc : Thread KernelIdeal.nD KernelIdeal.τ).loc KernelIdeal.main_arg1))
      ∧ θ_run (ReferenceIdeal.defs (F := Ideal)) (onTc (τ := ReferenceIdeal.τ) (ReferenceIdeal.main (F := Ideal)))
        ⟨m', fun _ => 0, ρ'⟩ (fun r =>
          r.2.mem (((0 : Dev ReferenceIdeal.nD).tc : Thread ReferenceIdeal.nD ReferenceIdeal.τ).loc ReferenceIdeal.main_v7) = v
            ∧ r.2.mem (((0 : Dev ReferenceIdeal.nD).tc : Thread ReferenceIdeal.nD ReferenceIdeal.τ).loc ReferenceIdeal.main_arg0)
              = m' (((0 : Dev ReferenceIdeal.nD).tc : Thread ReferenceIdeal.nD ReferenceIdeal.τ).loc ReferenceIdeal.main_arg0)
            ∧ r.2.mem (((0 : Dev ReferenceIdeal.nD).tc : Thread ReferenceIdeal.nD ReferenceIdeal.τ).loc ReferenceIdeal.main_arg1)
              = m' (((0 : Dev ReferenceIdeal.nD).tc : Thread ReferenceIdeal.nD ReferenceIdeal.τ).loc ReferenceIdeal.main_arg1)) := by
  obtain ⟨σ, hσ⟩ := is_table ht hp
  have hσ' : m' (((0 : Dev ReferenceIdeal.nD).tc : Thread ReferenceIdeal.nD ReferenceIdeal.τ).loc ReferenceIdeal.main_arg1)
      = table σ := (ha 0).2.symm.trans (hσ 0)
  refine ⟨_, (θ_run KernelIdeal.defs _ _).mono (fun r h c => ⟨(h.1 c).1.trans ?_, (h.1 c).2⟩) (run_main m ρ σ hσ),
    (θ_run ReferenceIdeal.defs _ _).mono (fun r h => h 0) (ReferenceIdeal.Value.run (F := Ideal) m' ρ')⟩
  rw [hσ']
  exact ((ha (source σ c)).1).trans (block_value σ c _)

end Cert.Permute

end
-- ==== Proof.lean ====
/-
# The proof of the claims

One table for each of the 24 permutations of the four places; at each, the general statement of Proof/Claims.lean.
-/
module

public import proofs.«01_k».proof.Defs
public import proofs.«01_k».proof.Proof.Claims
public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Gen.Pre_pi_is_0123_ReferenceIdeal
public import proofs.«01_k».proof.Proof.Gen.Pre_pi_is_0132_ReferenceIdeal
public import proofs.«01_k».proof.Proof.Gen.Pre_pi_is_0213_ReferenceIdeal
public import proofs.«01_k».proof.Proof.Gen.Pre_pi_is_0231_ReferenceIdeal
public import proofs.«01_k».proof.Proof.Gen.Pre_pi_is_0312_ReferenceIdeal
public import proofs.«01_k».proof.Proof.Gen.Pre_pi_is_0321_ReferenceIdeal
public import proofs.«01_k».proof.Proof.Gen.Pre_pi_is_1023_ReferenceIdeal
public import proofs.«01_k».proof.Proof.Gen.Pre_pi_is_1032_ReferenceIdeal
public import proofs.«01_k».proof.Proof.Gen.Pre_pi_is_1203_ReferenceIdeal
public import proofs.«01_k».proof.Proof.Gen.Pre_pi_is_1230_ReferenceIdeal
public import proofs.«01_k».proof.Proof.Gen.Pre_pi_is_1302_ReferenceIdeal
public import proofs.«01_k».proof.Proof.Gen.Pre_pi_is_1320_ReferenceIdeal
public import proofs.«01_k».proof.Proof.Gen.Pre_pi_is_2013_ReferenceIdeal
public import proofs.«01_k».proof.Proof.Gen.Pre_pi_is_2031_ReferenceIdeal
public import proofs.«01_k».proof.Proof.Gen.Pre_pi_is_2103_ReferenceIdeal
public import proofs.«01_k».proof.Proof.Gen.Pre_pi_is_2130_ReferenceIdeal
public import proofs.«01_k».proof.Proof.Gen.Pre_pi_is_2301_ReferenceIdeal
public import proofs.«01_k».proof.Proof.Gen.Pre_pi_is_2310_ReferenceIdeal
public import proofs.«01_k».proof.Proof.Gen.Pre_pi_is_3012_ReferenceIdeal
public import proofs.«01_k».proof.Proof.Gen.Pre_pi_is_3021_ReferenceIdeal
public import proofs.«01_k».proof.Proof.Gen.Pre_pi_is_3102_ReferenceIdeal
public import proofs.«01_k».proof.Proof.Gen.Pre_pi_is_3120_ReferenceIdeal
public import proofs.«01_k».proof.Proof.Gen.Pre_pi_is_3201_ReferenceIdeal
public import proofs.«01_k».proof.Proof.Gen.Pre_pi_is_3210_ReferenceIdeal
public import Idealize.ShloMosaic.Adequacy
public import Idealize.ShloMosaic.Init

@[expose] public section

noncomputable section

namespace Cert.Proof

open Idealize.ShloMosaic Idealize.SL.Sem Cert.Permute

/-- The kernel's frame at its bits and at the ideal values, the reference's frame, and the equality of the two programs'
    results, at every table that a permutation makes. -/
theorem claim : Cert.Claim :=
  ⟨Cert.Kernel.Gen.facts, Cert.KernelIdeal.Gen.facts,
    Cert.ReferenceIdeal.Gen.facts, Cert.Pre_pi_is_0123_Kernel.Gen.facts,
    Cert.Pre_pi_is_0132_Kernel.Gen.facts, Cert.Pre_pi_is_0213_Kernel.Gen.facts,
    Cert.Pre_pi_is_0231_Kernel.Gen.facts, Cert.Pre_pi_is_0312_Kernel.Gen.facts,
    Cert.Pre_pi_is_0321_Kernel.Gen.facts, Cert.Pre_pi_is_1023_Kernel.Gen.facts,
    Cert.Pre_pi_is_1032_Kernel.Gen.facts, Cert.Pre_pi_is_1203_Kernel.Gen.facts,
    Cert.Pre_pi_is_1230_Kernel.Gen.facts, Cert.Pre_pi_is_1302_Kernel.Gen.facts,
    Cert.Pre_pi_is_1320_Kernel.Gen.facts, Cert.Pre_pi_is_2013_Kernel.Gen.facts,
    Cert.Pre_pi_is_2031_Kernel.Gen.facts, Cert.Pre_pi_is_2103_Kernel.Gen.facts,
    Cert.Pre_pi_is_2130_Kernel.Gen.facts, Cert.Pre_pi_is_2301_Kernel.Gen.facts,
    Cert.Pre_pi_is_2310_Kernel.Gen.facts, Cert.Pre_pi_is_3012_Kernel.Gen.facts,
    Cert.Pre_pi_is_3021_Kernel.Gen.facts, Cert.Pre_pi_is_3102_Kernel.Gen.facts,
    Cert.Pre_pi_is_3120_Kernel.Gen.facts, Cert.Pre_pi_is_3201_Kernel.Gen.facts,
    Cert.Pre_pi_is_3210_Kernel.Gen.facts, Cert.Pre_pi_is_0123_ReferenceIdeal.Gen.facts,
    Cert.Pre_pi_is_0132_ReferenceIdeal.Gen.facts, Cert.Pre_pi_is_0213_ReferenceIdeal.Gen.facts,
    Cert.Pre_pi_is_0231_ReferenceIdeal.Gen.facts, Cert.Pre_pi_is_0312_ReferenceIdeal.Gen.facts,
    Cert.Pre_pi_is_0321_ReferenceIdeal.Gen.facts, Cert.Pre_pi_is_1023_ReferenceIdeal.Gen.facts,
    Cert.Pre_pi_is_1032_ReferenceIdeal.Gen.facts, Cert.Pre_pi_is_1203_ReferenceIdeal.Gen.facts,
    Cert.Pre_pi_is_1230_ReferenceIdeal.Gen.facts, Cert.Pre_pi_is_1302_ReferenceIdeal.Gen.facts,
    Cert.Pre_pi_is_1320_ReferenceIdeal.Gen.facts, Cert.Pre_pi_is_2013_ReferenceIdeal.Gen.facts,
    Cert.Pre_pi_is_2031_ReferenceIdeal.Gen.facts, Cert.Pre_pi_is_2103_ReferenceIdeal.Gen.facts,
    Cert.Pre_pi_is_2130_ReferenceIdeal.Gen.facts, Cert.Pre_pi_is_2301_ReferenceIdeal.Gen.facts,
    Cert.Pre_pi_is_2310_ReferenceIdeal.Gen.facts, Cert.Pre_pi_is_3012_ReferenceIdeal.Gen.facts,
    Cert.Pre_pi_is_3021_ReferenceIdeal.Gen.facts, Cert.Pre_pi_is_3102_ReferenceIdeal.Gen.facts,
    Cert.Pre_pi_is_3120_ReferenceIdeal.Gen.facts, Cert.Pre_pi_is_3201_ReferenceIdeal.Gen.facts,
    Cert.Pre_pi_is_3210_ReferenceIdeal.Gen.facts, by
    and_intros
    all_goals first
      | exact trivial
      | exact fun m g _ => frame_reference m g
      | exact fun m g m' g' h ha => algebraic (by decide) m g m' g' h ha
      | exact fun m g h => frame_kernel (by decide) m g h
      | exact fun m g h => frame_any (by decide) m g h⟩

end Cert.Proof

end
